-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4096 : Shape := ⟨1, ![4096]⟩
abbrev S32x2 : Shape := ⟨2, ![32, 2]⟩
abbrev S32x1 : Shape := ⟨2, ![32, 1]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : FVec F S32x2 .f32) (main_arg2 : FVec F S32x1 .f32) (main_arg3 : FVec F S32x1 .f32) : IVec S4096 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 32#32
  let main_v2 : IVec S4096 32 := broadcastInDim S4096 ![] bcast_S_S4096 main_c_0
  let main_v3 : IVec S4096 1 := cmpi .slt main_arg0 main_v2
  let main_v4 : IVec S4096 1 := andi main_v1 main_v3
  main_v4
-- ==== Kernel.lean ====
abbrev S4096 : Shape := ⟨1, ![4096]⟩
abbrev S32x2 : Shape := ⟨2, ![32, 2]⟩
abbrev S32x1 : Shape := ⟨2, ![32, 1]⟩
abbrev S32x4 : Shape := ⟨2, ![32, 4]⟩
abbrev S4x32 : Shape := ⟨2, ![4, 32]⟩
abbrev S4096x1 : Shape := ⟨2, ![4096, 1]⟩
abbrev S3x4096x1024 : Shape := ⟨3, ![3, 4096, 1024]⟩
abbrev S4096x1024 : Shape := ⟨2, ![4096, 1024]⟩
abbrev S1024x1 : Shape := ⟨2, ![1024, 1]⟩
abbrev S3x1024x1024 : Shape := ⟨3, ![3, 1024, 1024]⟩
abbrev S1024x1024 : Shape := ⟨2, ![1024, 1024]⟩
abbrev S1024x32 : Shape := ⟨2, ![1024, 32]⟩
abbrev S1x32 : Shape := ⟨2, ![1, 32]⟩
abbrev S1024 : Shape := ⟨1, ![1024]⟩
abbrev S1x1024x1024 : Shape := ⟨3, ![1, 1024, 1024]⟩
abbrev S4096x1024x3 : Shape := ⟨3, ![4096, 1024, 3]⟩
abbrev S4194304x3 : Shape := ⟨2, ![4194304, 3]⟩
abbrev S4194304x1 : Shape := ⟨2, ![4194304, 1]⟩

abbrev nBuf : Space → Nat
  | .hbm => 13
  | .vmem => 7
  | .smem => 0
  | _ => 0

abbrev bufTy : (tb : Table) → Fin (tcTables nBuf tb) → BufTy
  | .hbm, ⟨0, _⟩ => ⟨S4096, .i32⟩
  | .hbm, ⟨1, _⟩ => ⟨S32x2, .f32⟩
  | .hbm, ⟨2, _⟩ => ⟨S32x1, .f32⟩
  | .hbm, ⟨3, _⟩ => ⟨S32x1, .f32⟩
  | .hbm, ⟨4, _⟩ => ⟨S32x4, .f32⟩
  | .hbm, ⟨5, _⟩ => ⟨S4x32, .f32⟩
  | .hbm, ⟨6, _⟩ => ⟨S4096x1, .i32⟩
  | .hbm, ⟨7, _⟩ => ⟨S3x4096x1024, .f32⟩
  | .hbm, ⟨8, _⟩ => ⟨S4096x1024, .f32⟩
  | .hbm, ⟨9, _⟩ => ⟨S4096x1024x3, .f32⟩
  | .hbm, ⟨10, _⟩ => ⟨S4194304x3, .f32⟩
  | .hbm, ⟨11, _⟩ => ⟨S4194304x1, .f32⟩
  | .hbm, ⟨12, _⟩ => ⟨S4194304x3, .f32⟩
  | .local _ .vmem, ⟨0, _⟩ => ⟨S1024x1, .i32⟩
  | .local _ .vmem, ⟨1, _⟩ => ⟨S1024x1, .i32⟩
  | .local _ .vmem, ⟨2, _⟩ => ⟨S4x32, .f32⟩
  | .local _ .vmem, ⟨3, _⟩ => ⟨S3x1024x1024, .f32⟩
  | .local _ .vmem, ⟨4, _⟩ => ⟨S3x1024x1024, .f32⟩
  | .local _ .vmem, ⟨5, _⟩ => ⟨S1024x1024, .f32⟩
  | .local _ .vmem, ⟨6, _⟩ => ⟨S1024x1024, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096 : Shape := ⟨1, ![4096]⟩
abbrev S32x2 : Shape := ⟨2, ![32, 2]⟩
abbrev S32x1 : Shape := ⟨2, ![32, 1]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x2 : Shape := ⟨2, ![4096, 2]⟩
abbrev S4096x3 : Shape := ⟨2, ![4096, 3]⟩
abbrev S4096x1x3 : Shape := ⟨3, ![4096, 1, 3]⟩
abbrev S4096x1024x3 : Shape := ⟨3, ![4096, 1024, 3]⟩
abbrev S4194304x3 : Shape := ⟨2, ![4194304, 3]⟩
abbrev S4096x1x1 : Shape := ⟨3, ![4096, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32x2, .f32⟩
  | .hbm, ⟨2, _⟩ => ⟨S32x1, .f32⟩
  | .hbm, ⟨3, _⟩ => ⟨S32x1, .f32⟩
  | .hbm, ⟨4, _⟩ => ⟨S_, .i32⟩
  | .hbm, ⟨5, _⟩ => ⟨S4096, .i32⟩
  | .hbm, ⟨6, _⟩ => ⟨S4096, .i1⟩
  | .hbm, ⟨7, _⟩ => ⟨S_, .i32⟩
  | .hbm, ⟨8, _⟩ => ⟨S4096, .i32⟩
  | .hbm, ⟨9, _⟩ => ⟨S4096, .i32⟩
  | .hbm, ⟨10, _⟩ => ⟨S4096, .i32⟩
  | .hbm, ⟨11, _⟩ => ⟨S4096x1, .i32⟩
  | .hbm, ⟨12, _⟩ => ⟨S1, .i32⟩
  | .hbm, ⟨13, _⟩ => ⟨S_, .i32⟩
  | .hbm, ⟨14, _⟩ => ⟨S4096x1, .i32⟩
  | .hbm, ⟨15, _⟩ => ⟨S4096x1, .i1⟩
  | .hbm, ⟨16, _⟩ => ⟨S1x1, .i32⟩
  | .hbm, ⟨17, _⟩ => ⟨S4096x1, .i32⟩
  | .hbm, ⟨18, _⟩ => ⟨S4096x1, .i1⟩
  | .hbm, ⟨19, _⟩ => ⟨S4096x1, .i1⟩
  | .hbm, ⟨20, _⟩ => ⟨S_, .i1⟩
  | .hbm, ⟨21, _⟩ => ⟨S4096, .i1⟩
  | .hbm, ⟨22, _⟩ => ⟨S4096x2, .f32⟩
  | .hbm, ⟨23, _⟩ => ⟨S4096x2, .i1⟩
  | .hbm, ⟨24, _⟩ => ⟨S_, .f32⟩
  | .hbm, ⟨25, _⟩ => ⟨S4096x2, .f32⟩
  | .hbm, ⟨26, _⟩ => ⟨S4096x2, .f32⟩
  | .hbm, ⟨27, _⟩ => ⟨S_, .i32⟩
  | .hbm, ⟨28, _⟩ => ⟨S4096, .i32⟩
  | .hbm, ⟨29, _⟩ => ⟨S4096, .i1⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S4096x1, .i32⟩
  | .hbm, ⟨35, _⟩ => ⟨S1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S1x1, .i32⟩
  | .hbm, ⟨40, _⟩ => ⟨S4096x1, .i32⟩
  | .hbm, ⟨41, _⟩ => ⟨S4096x1, .i1⟩
  | .hbm, ⟨42, _⟩ => ⟨S4096x1, .i1⟩
  | .hbm, ⟨43, _⟩ => ⟨S_, .i1⟩
  | .hbm, ⟨44, _⟩ => ⟨S4096, .i1⟩
  | .hbm, ⟨45, _⟩ => ⟨S4096x1, .f32⟩
  | .hbm, ⟨46, _⟩ => ⟨S4096x1, .i1⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x3, .f32⟩
  | .hbm, ⟨53, _⟩ => ⟨S4096x3, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S4096x3, .f32⟩
  | .hbm, ⟨62, _⟩ => ⟨S4096x3, .f32⟩
  | .hbm, ⟨63, _⟩ => ⟨S4096x1x3, .f32⟩
  | .hbm, ⟨64, _⟩ => ⟨S4096x1024x3, .f32⟩
  | .hbm, ⟨65, _⟩ => ⟨S4194304x3, .f32⟩
  | .hbm, ⟨66, _⟩ => ⟨S_, .i32⟩
  | .hbm, ⟨67, _⟩ => ⟨S4096, .i32⟩
  | .hbm, ⟨68, _⟩ => ⟨S4096, .i1⟩
  | .hbm, ⟨69, _⟩ => ⟨S_, .i32⟩
  | .hbm, ⟨70, _⟩ => ⟨S4096, .i32⟩
  | .hbm, ⟨71, _⟩ => ⟨S4096, .i32⟩
  | .hbm, ⟨72, _⟩ => ⟨S4096, .i32⟩
  | .hbm, ⟨73, _⟩ => ⟨S4096x1, .i32⟩
  | .hbm, ⟨74, _⟩ => ⟨S1, .i32⟩
  | .hbm, ⟨75, _⟩ => ⟨S_, .i32⟩
  | .hbm, ⟨76, _⟩ => ⟨S4096x1, .i32⟩
  | .hbm, ⟨77, _⟩ => ⟨S4096x1, .i1⟩
  | .hbm, ⟨78, _⟩ => ⟨S1x1, .i32⟩
  | .hbm, ⟨79, _⟩ => ⟨S4096x1, .i32⟩
  | .hbm, ⟨80, _⟩ => ⟨S4096x1, .i1⟩
  | .hbm, ⟨81, _⟩ => ⟨S4096x1, .i1⟩
  | .hbm, ⟨82, _⟩ => ⟨S_, .i1⟩
  | .hbm, ⟨83, _⟩ => ⟨S4096, .i1⟩
  | .hbm, ⟨84, _⟩ => ⟨S4096x1, .f32⟩
  | .hbm, ⟨85, _⟩ => ⟨S4096x1, .i1⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S4096x1, .f32⟩
  | .hbm, ⟨90, _⟩ => ⟨S4096x1x1, .f32⟩
  | .hbm, ⟨91, _⟩ => ⟨S4096x1024x3, .f32⟩
  | .hbm, ⟨92, _⟩ => ⟨S4194304x3, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_call2_v0 : Ref sig .tc := ⟨.hbm, 53, rfl⟩
abbrev main_call2_cst : Ref sig .tc := ⟨.hbm, 54, rfl⟩
abbrev main_call2_v1 : Ref sig .tc := ⟨.hbm, 55, rfl⟩
abbrev main_call2_v2 : Ref sig .tc := ⟨.hbm, 56, rfl⟩
abbrev main_v5 : Ref sig .tc := ⟨.hbm, 57, rfl⟩
abbrev main_cst : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_call3_c : Ref sig .tc := ⟨.hbm, 66, rfl⟩
abbrev main_call3_v0 : Ref sig .tc := ⟨.hbm, 67, rfl⟩
abbrev main_call3_v1 : Ref sig .tc := ⟨.hbm, 68, rfl⟩
abbrev main_call3_c_0 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_call3_v5 : Ref sig .tc := ⟨.hbm, 73, rfl⟩
abbrev main_call3_c_1 : Ref sig .tc := ⟨.hbm, 74, rfl⟩
abbrev main_call3_c_2 : Ref sig .tc := ⟨.hbm, 75, rfl⟩
abbrev main_call3_v6 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_c_3 : Ref sig .tc := ⟨.hbm, 82, rfl⟩
abbrev main_call3_v12 : Ref sig .tc := ⟨.hbm, 83, rfl⟩
abbrev main_call3_v13 : Ref sig .tc := ⟨.hbm, 84, rfl⟩
abbrev main_call3_v14 : Ref sig .tc := ⟨.hbm, 85, rfl⟩
abbrev main_call3_cst : Ref sig .tc := ⟨.hbm, 86, rfl⟩
abbrev main_call3_v15 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩

abbrev nD : Nat := 1
abbrev τ : Topo := Topo.v7x

variable {F : FTy → Type} [FloatOps F]
-- ==== Proof.Light.lean ====
/-
  The arithmetic of one light, on extended reals: a one-hot sum picks the light's parameter, and
  multiplying by a reciprocal is dividing. No program is named here.
-/
module

public import Idealize.ShloMosaic.Lib.Pointwise
public import Idealize.ShloMosaic.PureOps.Ideal
public import Idealize.ShloMosaic.PureOps.IdealRules

@[expose] public section

noncomputable section

open Idealize.ShloMosaic

namespace Cert.Light

/-- The smallest divisor of a direction: the f32 nearest to `1e-12`. -/
abbrev eps : EReal := Ideal.ofBits FTy.f32 730643660#32

/-- The smallest divisor is positive. -/
theorem eps_pos : 0 < eps := by
  simp [eps, Ideal.ofBits, Ideal.ieee, -EReal.coe_mul]

/-- The light that an index word names, read as a number below 32. -/
def lightOf (w : BitVec 32) : Fin 32 := ⟨w.toNat % 32, Nat.mod_lt _ (by decide)⟩

/-- A word below 32 is the number of the light it names. -/
theorem lightOf_word (w : BitVec 32) (h : w.toNat < 32) : w = BitVec.ofNat 32 (lightOf w).val := by
  apply BitVec.eq_of_toNat_eq
  simp only [lightOf, BitVec.toNat_ofNat]
  omega

/-- A word below 32 is not negative, is at least 0 and at most 31, as a signed number. -/
theorem word_range (w : BitVec 32) (h : w.toNat < 32) : IntOp.cmpi CmpIPredicate.slt w 0#32 = 0#1
    ∧ IntOp.cmpi CmpIPredicate.sge w 0#32 = 1#1 ∧ IntOp.cmpi CmpIPredicate.sle w 31#32 = 1#1 := by
  rw [lightOf_word w h]
  exact (by decide : ∀ l : Fin 32, IntOp.cmpi CmpIPredicate.slt (BitVec.ofNat 32 l.val) 0#32 = 0#1
    ∧ IntOp.cmpi CmpIPredicate.sge (BitVec.ofNat 32 l.val) 0#32 = 1#1
    ∧ IntOp.cmpi CmpIPredicate.sle (BitVec.ofNat 32 l.val) 31#32 = 1#1) _

/-- A word that is at least 0 and less than 32, as a signed number, is below 32. -/
theorem word_lt (w : BitVec 32)
    (h : IntOp.andi (IntOp.cmpi CmpIPredicate.sge w 0#32) (IntOp.cmpi CmpIPredicate.slt w 32#32) = 1#1) : w.toNat < 32 := by
  have hb : ∀ p q : Bool, IntOp.andi (BitVec.ofBool p) (BitVec.ofBool q) = 1#1 → p = true ∧ q = true := by decide
  obtain ⟨h0, h1⟩ := hb _ _ h
  simp only [BitVec.slt, BitVec.sle, decide_eq_true_eq, BitVec.toInt_eq_toNat_cond, BitVec.toNat_ofNat] at h0 h1
  have := w.isLt
  split at h0 <;> split at h1 <;> omega

/-- A direction divided by its length, the length kept at or above the smallest divisor. -/
def unitDir (v : Fin 3 → EReal) (k : Fin 3) : EReal :=
  Ideal.div (v k) (max (Ideal.sqrt (v 0 * v 0 + v 1 * v 1 + v 2 * v 2)) eps)

/-- The direction of a light from its three parameters: the third is turned to point down. -/
def down (x y z : EReal) : Fin 3 → EReal := ![x, y, -(FloatOps.absf (F := Ideal) (φ := .f32) z)]

/-- Multiplying by the reciprocal of a positive divisor is dividing by it. -/
theorem mul_recip (x n : EReal) : x * Ideal.div 1 (max n eps) = Ideal.div x (max n eps) := by
  have h : max n eps ≠ 0 := (lt_of_lt_of_le eps_pos (le_max_right n eps)).ne'
  unfold Ideal.div
  rw [if_neg h, if_neg h, one_mul]

/-- The sum over the 32 lights of "is this the light of word `w`?" times the light's parameter is
    the parameter of the light that `w` names. -/
theorem pick (f : Fin 32 → EReal) (w : BitVec 32) (h : w.toNat < 32) :
    ∑ x : Fin 32, (FloatOps.sitofp (F := Ideal) FTy.f32
        (BitVec.setWidth 32 (IntOp.cmpi CmpIPredicate.eq (BitVec.ofNat 32 x.val) w))) * f x
      = f (lightOf w) := by
  have h1 : FloatOps.sitofp (F := Ideal) FTy.f32 (1#32) = (1 : EReal) := by
    change (((1#32 : BitVec 32).toInt : ℝ) : EReal) = 1
    norm_num
  have h0 : FloatOps.sitofp (F := Ideal) FTy.f32 (0#32) = (0 : EReal) := by
    change (((0#32 : BitVec 32).toInt : ℝ) : EReal) = 0
    norm_num
  rw [Finset.sum_eq_single (lightOf w)]
  · rw [← lightOf_word w h, show BitVec.setWidth 32 (IntOp.cmpi CmpIPredicate.eq w w) = 1#32 by simp [IntOp.cmpi], h1, one_mul]
  · intro x _ hx
    have hne : BitVec.ofNat 32 x.val ≠ w := by
      intro e
      apply hx
      subst e
      apply Fin.ext
      simp only [lightOf, BitVec.toNat_ofNat]
      omega
    have hb : (BitVec.ofNat 32 x.val == w) = false := by simpa using hne
    rw [show BitVec.setWidth 32 (IntOp.cmpi CmpIPredicate.eq (BitVec.ofNat 32 x.val) w) = 0#32 by
      simp only [IntOp.cmpi, hb]; rfl, h0, zero_mul]
  · exact fun hn => absurd (Finset.mem_univ _) hn

end Cert.Light
-- ==== Proof.Block.lean ====
/-
  What one grid point of the kernel computes: the two output blocks, read at an index, as functions of
  the block of index words and of the parameter table.
-/
module

public import proofs.«01_k».proof.Proof.Gen.KernelIdeal.Frame
public import proofs.«01_k».proof.Proof.Light
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen Cert.Light

variable (w : Vec Ideal S1024x1 .i32) (tab : Vec Ideal S4x32 .f32)

/-- Reading the whole block of index words gives the block. -/
theorem ld_words : View.ld w r0_0 = w :=
  View.ld_unit_lit _ _ (by decide)

/-- Reading the whole parameter table gives the table. -/
theorem ld_table : View.ld tab r0_1 = tab :=
  View.ld_unit_lit _ _ (by decide)

/-- The first coordinate the kernel looks up for row `r` is the named light's entry of table row 0. -/
theorem x_apply (r : Fin 1024) (h : (w (ix2 r 0)).toNat < 32) :
    k0_pay7 w tab (ix2 r 0) = tab (ix2 0 (lightOf (w (ix2 r 0)))) := by
  pointwise [k0_pay7, k0_pay5, k0_pay6]
  exact pick (fun x => tab (ix2 0 x)) _ h

/-- The second coordinate is the named light's entry of table row 1. -/
theorem y_apply (r : Fin 1024) (h : (w (ix2 r 0)).toNat < 32) :
    k0_pay8 w tab (ix2 r 0) = tab (ix2 1 (lightOf (w (ix2 r 0)))) := by
  pointwise [k0_pay8, k0_pay5, k0_pay6]
  exact pick (fun x => tab (ix2 1 x)) _ h

/-- The third coordinate is minus the absolute value of the named light's entry of table row 2. -/
theorem z_apply (r : Fin 1024) (h : (w (ix2 r 0)).toNat < 32) :
    k0_pay9 w tab (ix2 r 0) = -(FloatOps.absf (F := Ideal) (φ := .f32) (tab (ix2 2 (lightOf (w (ix2 r 0)))))) := by
  pointwise [k0_pay9, k0_pay5, k0_pay6]
  rw [zero_sub]
  exact congrArg (fun u : EReal => -(FloatOps.absf (F := Ideal) (φ := .f32) u)) (pick (fun x => tab (ix2 2 x)) _ h)

/-- The intensity is the absolute value of the named light's entry of table row 3. -/
theorem intensity_apply (r : Fin 1024) (h : (w (ix2 r 0)).toNat < 32) :
    k0_pay10 w tab (ix2 r 0) = FloatOps.absf (F := Ideal) (φ := .f32) (tab (ix2 3 (lightOf (w (ix2 r 0))))) := by
  pointwise [k0_pay10, k0_pay5, k0_pay6]
  exact congrArg (fun u : EReal => FloatOps.absf (F := Ideal) (φ := .f32) u) (pick (fun x => tab (ix2 3 x)) _ h)

/-- The direction, before it is scaled, of the light that row `r` names. -/
abbrev rowDown (r : Fin 1024) : Fin 3 → EReal :=
  down (tab (ix2 0 (lightOf (w (ix2 r 0))))) (tab (ix2 1 (lightOf (w (ix2 r 0))))) (tab (ix2 2 (lightOf (w (ix2 r 0)))))

/-- The factor every coordinate of row `r` is multiplied by: one over the kept length. -/
theorem inv_apply (r : Fin 1024) (h : (w (ix2 r 0)).toNat < 32) :
    k0_pay11 w tab (ix2 r 0) = Ideal.div 1 (max (Ideal.sqrt (rowDown w tab r 0 * rowDown w tab r 0
      + rowDown w tab r 1 * rowDown w tab r 1 + rowDown w tab r 2 * rowDown w tab r 2)) eps) := by
  unfold k0_pay11
  pointwise
  rw [x_apply w tab r h, y_apply w tab r h, z_apply w tab r h]
  rfl

/-- The stored plane of the first coordinate repeats its column along the row. -/
theorem plane0_apply (v : FVec Ideal S1024x1024 .f32) (r j : Fin 1024) : k0_pay1 v (ix3 0 r j) = v (ix2 r j) := by
  pointwise [k0_pay1]

/-- The first coordinate times the factor, repeated along the row. -/
theorem scaled0_apply (r j : Fin 1024) : k0_pay12 w tab (ix2 r j) = k0_pay7 w tab (ix2 r 0) * k0_pay11 w tab (ix2 r 0) := by
  unfold k0_pay12
  pointwise

/-- The stored plane of the second coordinate. -/
theorem plane1_apply (v u : FVec Ideal S1024x1 .f32) (r j : Fin 1024) :
    k0_pay2 v u (ix3 0 r j) = v (ix2 r 0) * u (ix2 r 0) := by
  pointwise [k0_pay2]

/-- The stored plane of the third coordinate. -/
theorem plane2_apply (v u : FVec Ideal S1024x1 .f32) (r j : Fin 1024) :
    k0_pay3 v u (ix3 0 r j) = v (ix2 r 0) * u (ix2 r 0) := by
  pointwise [k0_pay3]

/-- The stored intensities repeat their column along the row. -/
theorem column_apply (v : FVec Ideal S1024x1 .f32) (r j : Fin 1024) : k0_pay4 v (ix2 r j) = v (ix2 r 0) := by
  pointwise [k0_pay4]

/-- Entry `(p, r, j)` of the direction block is coordinate `p` of the scaled direction of row `r`'s light. -/
theorem directions_apply (p : Fin 3) (r j : Fin 1024) (h : (w (ix2 r 0)).toNat < 32) :
    out0_2 w tab (ix3 p r j) = unitDir (rowDown w tab r) p := by
  unfold_out out0_2
  rw [ld_words, ld_table]
  canon_tiles x hx
  · obtain rfl : p = 2 := Fin.ext (by simp only [ix3] at hx0; omega)
    obtain rfl : x = ix3 0 r j := by
      blk_ext
      · exact hx1.symm
      · exact hx2.symm
    rw [plane2_apply, inv_apply w tab r h, mul_recip, z_apply w tab r h]
    rfl
  · obtain rfl : p = 1 := Fin.ext (by simp only [ix3] at hx0; omega)
    obtain rfl : x = ix3 0 r j := by
      blk_ext
      · exact hx1.symm
      · exact hx2.symm
    rw [plane1_apply, inv_apply w tab r h, mul_recip, y_apply w tab r h]
    rfl
  · obtain rfl : p = 0 := Fin.ext (by simp only [ix3] at hx0; omega)
    obtain rfl : x = ix3 0 r j := by
      blk_ext
      · exact hx1.symm
      · exact hx2.symm
    rw [plane0_apply, scaled0_apply, inv_apply w tab r h, mul_recip, x_apply w tab r h]
    rfl

/-- Entry `(r, j)` of the intensity block is the intensity of row `r`'s light. -/
theorem intensities_apply (r j : Fin 1024) (h : (w (ix2 r 0)).toNat < 32) :
    out0_3 w tab (ix2 r j) = FloatOps.absf (F := Ideal) (φ := .f32) (tab (ix2 3 (lightOf (w (ix2 r 0))))) := by
  unfold_out out0_3
  rw [ld_words, ld_table]
  canon_tiles x hx
  obtain rfl : x = ix2 r j := by
    blk_ext
    · exact hx0.symm
    · exact hx1.symm
  rw [column_apply, intensity_apply w tab r h]

end Cert.KernelIdeal.Block
-- ==== Proof.Array.lean ====
/-
  What the kernel's two arrays hold after its grid has run: each entry as a function of the program's
  arguments, for index words below 32.
-/
module

public import proofs.«01_k».proof.Proof.Gen.KernelIdeal.Frame
public import proofs.«01_k».proof.Proof.Block
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Array

open Cert.KernelIdeal Cert.KernelIdeal.Gen Cert.Light

/-- The scaled direction of the light that word `b` of `a0` names: coordinate `p`. -/
def directionAt (a0 : IVec S4096 32) (a1 : FVec Ideal S32x2 .f32) (a2 : FVec Ideal S32x1 .f32)
    (b : Fin 4096) (p : Fin 3) : EReal :=
  unitDir (down (a1 (ix2 (lightOf (a0 (ix1 b))) 0)) (a1 (ix2 (lightOf (a0 (ix1 b))) 1)) (a2 (ix2 (lightOf (a0 (ix1 b))) 0))) p

/-- The intensity of the light that word `b` of `a0` names. -/
def intensityAt (a0 : IVec S4096 32) (a3 : FVec Ideal S32x1 .f32) (b : Fin 4096) : EReal :=
  FloatOps.absf (F := Ideal) (φ := .f32) (a3 (ix2 (lightOf (a0 (ix1 b))) 0))

/-- The direction planes: entry `(p, b, j)` is coordinate `p` of word `b`'s direction. -/
def directions (a0 : IVec S4096 32) (a1 : FVec Ideal S32x2 .f32) (a2 : FVec Ideal S32x1 .f32) : FVec Ideal S3x4096x1024 .f32 :=
  fun i => directionAt a0 a1 a2 (i 1) (i 0)

/-- The intensities: entry `(b, j)` is word `b`'s intensity. -/
def intensities (a0 : IVec S4096 32) (a3 : FVec Ideal S32x1 .f32) : FVec Ideal S4096x1024 .f32 :=
  fun i => intensityAt a0 a3 (i 0)

variable (m : (ℓ : Loc nD τ sig) → Buf (Elt Ideal) ℓ)

/-- The column of index words the kernel is given is the argument's vector. -/
theorem words_apply (c : Dev nD) (b : Fin 4096) :
    (V m c main_v2 : IVec S4096x1 32) (ix2 b 0) = (m ((c : Thread nD τ).loc main_arg0) : IVec S4096 32) (ix1 b) := by
  unfold V V0 hostOps0
  after_reads_at

/-- Row 0 of the parameter table is the first column of the first parameter. -/
theorem table0_apply (c : Dev nD) (l : Fin 32) :
    (V m c main_v1 : FVec Ideal S4x32 .f32) (ix2 0 l) = (m ((c : Thread nD τ).loc main_arg1) : FVec Ideal S32x2 .f32) (ix2 l 0) := by
  unfold V V0 hostOps0
  after_reads_at
  rfl

/-- Row 1 of the parameter table is the second column of the first parameter. -/
theorem table1_apply (c : Dev nD) (l : Fin 32) :
    (V m c main_v1 : FVec Ideal S4x32 .f32) (ix2 1 l) = (m ((c : Thread nD τ).loc main_arg1) : FVec Ideal S32x2 .f32) (ix2 l 1) := by
  unfold V V0 hostOps0
  after_reads_at
  rfl

/-- Row 2 of the parameter table is the second parameter. -/
theorem table2_apply (c : Dev nD) (l : Fin 32) :
    (V m c main_v1 : FVec Ideal S4x32 .f32) (ix2 2 l) = (m ((c : Thread nD τ).loc main_arg2) : FVec Ideal S32x1 .f32) (ix2 l 0) := by
  unfold V V0 hostOps0
  after_reads_at
  rfl

/-- Row 3 of the parameter table is the third parameter. -/
theorem table3_apply (c : Dev nD) (l : Fin 32) :
    (V m c main_v1 : FVec Ideal S4x32 .f32) (ix2 3 l) = (m ((c : Thread nD τ).loc main_arg3) : FVec Ideal S32x1 .f32) (ix2 l 0) := by
  unfold V V0 hostOps0
  after_reads_at
  rfl

/-- What every window's block index is at grid point `t`. -/
theorem idx : ∀ t : Fin cfg0.N, win0_0.index t = ![t.val, 0] ∧ win0_1.index t = ![0, 0]
    ∧ win0_2.index t = ![0, t.val, 0] ∧ win0_3.index t = ![t.val, 0] ∧ t.val < 4 :=
  (by decide +kernel : ∀ t : Fin grid0.N, _)

/-- Row `r` of the block of words at grid point `t` is word `1024 t + r`. -/
theorem block_words (c : Dev nD) (t : Fin cfg0.N) (r : Fin 1024) (b : Fin 4096) (hb : b.val = t.val * 1024 + r.val) :
    (iblk m c 0 t : IVec S1024x1 32) (ix2 r 0) = (m ((c : Thread nD τ).loc main_arg0) : IVec S4096 32) (ix1 b) := by
  rw [← words_apply m c b]
  blk_simp [iblk]
  blk_ext [idx t]

/-- The block of the parameter table is the table at every grid point. -/
theorem block_table (c : Dev nD) (t : Fin cfg0.N) (k : Fin 4) (l : Fin 32) :
    (iblk m c 1 t : FVec Ideal S4x32 .f32) (ix2 k l) = (V m c main_v1 : FVec Ideal S4x32 .f32) (ix2 k l) := by
  blk_simp [iblk]
  blk_ext [idx t]

/-- The direction of row `r`'s light at grid point `t` is that of word `1024 t + r`. -/
theorem block_down (c : Dev nD) (t : Fin cfg0.N) (r : Fin 1024) (b : Fin 4096) (hb : b.val = t.val * 1024 + r.val) (p : Fin 3) :
    unitDir (Block.rowDown (iblk m c 0 t) (iblk m c 1 t) r) p
      = directionAt (m ((c : Thread nD τ).loc main_arg0)) (m ((c : Thread nD τ).loc main_arg1)) (m ((c : Thread nD τ).loc main_arg2)) b p := by
  unfold Block.rowDown directionAt
  rw [block_words m c t r b hb, block_table, block_table, block_table, table0_apply, table1_apply, table2_apply]

variable (hw : ∀ (c : Dev nD) (b : Fin 4096), ((m ((c : Thread nD τ).loc main_arg0) : IVec S4096 32) (ix1 b)).toNat < 32)

include hw in
/-- After the grid has run the first array holds the direction planes. -/
theorem final_directions (c : Dev nD) : (dats m 0 c).arrAt 2 (cfgs 0).N
    = directions (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  idx_vars y
  have ht := (idx t).2.2.2.2
  have hlt : t.val * 1024 + y1.val < 4096 := by have := y1.isLt; omega
  have he : ((win0_2.blk t).view.emb (ix3 y0 y1 y2) : S3x4096x1024.Idx) = ix3 y0 ⟨t.val * 1024 + y1.val, hlt⟩ y2 := by
    blk_ext [idx t]
  refine (Block.directions_apply _ _ y0 y1 y2 ?_).trans ?_
  · rw [block_words m c t y1 ⟨_, hlt⟩ rfl]
    exact hw c _
  · exact (block_down m c t y1 ⟨_, hlt⟩ rfl y0).trans
      (congrArg (directions (m ((c : Thread nD τ).loc main_arg0)) (m ((c : Thread nD τ).loc main_arg1)) (m ((c : Thread nD τ).loc main_arg2))) he).symm

include hw in
/-- After the grid has run the second array holds the intensities. -/
theorem final_intensities (c : Dev nD) : (dats m 0 c).arrAt 3 (cfgs 0).N
    = intensities (m ((c : Thread nD τ).loc main_arg0)) (m ((c : Thread nD τ).loc main_arg3)) := by
  refine (dats m 0 c).arrAt_eq_of_covers 3 _ (by decide +kernel) fun t hf y => ?_
  blk_simp
  rw [after0_3]
  idx_vars y
  have ht := (idx t).2.2.2.2
  have hlt : t.val * 1024 + y0.val < 4096 := by have := y0.isLt; omega
  have he : ((win0_3.blk t).view.emb (ix2 y0 y1) : S4096x1024.Idx) = ix2 ⟨t.val * 1024 + y0.val, hlt⟩ y1 := by
    blk_ext [idx t]
  have hb := block_words m c t y0 ⟨_, hlt⟩ rfl
  refine (Block.intensities_apply _ _ y0 y1 ?_).trans ?_
  · rw [hb]
    exact hw c _
  · rw [hb, block_table, table3_apply]
    exact (congrArg (intensities (m ((c : Thread nD τ).loc main_arg0)) (m ((c : Thread nD τ).loc main_arg3))) he).symm

end Cert.KernelIdeal.Array
-- ==== Proof.RefTake.lean ====
/-
  The three table look-ups of the reference, for index words below 32: each result row is the table's
  row of the light that the word names.
-/
module

public import proofs.«01_k».proof.Proof.Gen.ReferenceIdeal.Read
public import proofs.«01_k».proof.Proof.Light
public import Idealize.ShloMosaic.Lib.Routing.Ops
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.ReferenceIdeal.Take

open Cert.ReferenceIdeal Cert.ReferenceIdeal.Gen Cert.ReferenceIdeal.Read Cert.Light

variable (x0 : (⟨S4096, .i32⟩ : BufTy).Contents (Elt Ideal)) (hw : ∀ i : S4096.Idx, BitVec.toNat (x0 i : BitVec 32) < 32)

include hw in
/-- The look-up in the first parameter: the index word is looked up as it is, no number of rows being added to it. -/
theorem column0 (i : S4096x1.Idx) : val_main_call0_v5 (F := Ideal) x0 i = x0 (idx_main_call0_v5 i) := by
  rw [val_main_call0_v5_apply, val_main_call0_v4_apply, val_main_call0_v1_apply, val_main_call0_v0_apply, val_main_call0_c_apply,
    (word_range _ (hw _)).1]
  rfl

include hw in
/-- The look-up in the first parameter: every index word passes the bounds test. -/
theorem mask0 (j : S4096.Idx) : val_main_call0_v12 (F := Ideal) x0 j = 1#1 := by
  refine Host.reduce_andi_one _ _ _ _ j rfl fun i => ?_
  rw [val_main_call0_v11_apply, val_main_call0_v7_apply, val_main_call0_v10_apply, column0 x0 hw,
    val_main_call0_v6_apply, val_main_call0_v9_apply, val_main_call0_v8_apply]
  exact (congrArg₂ IntOp.andi (word_range _ (hw _)).2.1 (word_range _ (hw _)).2.2)

include hw in
/-- The look-up in the first parameter: row `b` of the result is the row of the light that word `b` names. -/
theorem take0 (x1 : (⟨S32x2, .f32⟩ : BufTy).Contents (Elt Ideal)) (b : Fin 4096) (k : Fin 2) :
    val_main_v0 (F := Ideal) x0 x1 (ix2 b k) = x1 (ix2 (lightOf (x0 (ix1 b))) k) := by
  have hi : (idx_main_call0_v5 (ix2 b 0) : S4096.Idx) = ix1 b := by funext a; match a with | ⟨0, _⟩ => rfl
  rw [val_main_v0_apply, val_main_call0_v14_apply, mask0 x0 hw]
  refine (ValueIdx.select_one _ _).trans ?_
  exact Routing.gather_row gather_S32x2_S4096x1_S4096x2_1_0_n_n_0_1_12 rfl rfl rfl rfl rfl x1 (val_main_call0_v5 (F := Ideal) x0) b k
    (lightOf (x0 (ix1 b))) ((column0 x0 hw _).trans ((congrArg x0 hi).trans (lightOf_word _ (hw _)))) (by decide)

include hw in
/-- The look-up in the second parameter: the index word is looked up as it is, no number of rows being added to it. -/
theorem column1 (i : S4096x1.Idx) : val_main_call1_v5 (F := Ideal) x0 i = x0 (idx_main_call1_v5 i) := by
  rw [val_main_call1_v5_apply, val_main_call1_v4_apply, val_main_call1_v1_apply, val_main_call1_v0_apply, val_main_call1_c_apply,
    (word_range _ (hw _)).1]
  rfl

include hw in
/-- The look-up in the second parameter: every index word passes the bounds test. -/
theorem mask1 (j : S4096.Idx) : val_main_call1_v12 (F := Ideal) x0 j = 1#1 := by
  refine Host.reduce_andi_one _ _ _ _ j rfl fun i => ?_
  rw [val_main_call1_v11_apply, val_main_call1_v7_apply, val_main_call1_v10_apply, column1 x0 hw,
    val_main_call1_v6_apply, val_main_call1_v9_apply, val_main_call1_v8_apply]
  exact (congrArg₂ IntOp.andi (word_range _ (hw _)).2.1 (word_range _ (hw _)).2.2)

include hw in
/-- The look-up in the second parameter: row `b` of the result is the row of the light that word `b` names. -/
theorem take1 (x2 : (⟨S32x1, .f32⟩ : BufTy).Contents (Elt Ideal)) (b : Fin 4096) (k : Fin 1) :
    val_main_v1 (F := Ideal) x0 x2 (ix2 b k) = x2 (ix2 (lightOf (x0 (ix1 b))) k) := by
  have hi : (idx_main_call1_v5 (ix2 b 0) : S4096.Idx) = ix1 b := by funext a; match a with | ⟨0, _⟩ => rfl
  rw [val_main_v1_apply, val_main_call1_v14_apply, mask1 x0 hw]
  refine (ValueIdx.select_one _ _).trans ?_
  exact Routing.gather_row gather_S32x1_S4096x1_S4096x1_1_0_n_n_0_1_11 rfl rfl rfl rfl rfl x2 (val_main_call1_v5 (F := Ideal) x0) b k
    (lightOf (x0 (ix1 b))) ((column1 x0 hw _).trans ((congrArg x0 hi).trans (lightOf_word _ (hw _)))) (by decide)

include hw in
/-- The look-up in the third parameter: the index word is looked up as it is, no number of rows being added to it. -/
theorem column3 (i : S4096x1.Idx) : val_main_call3_v5 (F := Ideal) x0 i = x0 (idx_main_call3_v5 i) := by
  rw [val_main_call3_v5_apply, val_main_call3_v4_apply, val_main_call3_v1_apply, val_main_call3_v0_apply, val_main_call3_c_apply,
    (word_range _ (hw _)).1]
  rfl

include hw in
/-- The look-up in the third parameter: every index word passes the bounds test. -/
theorem mask3 (j : S4096.Idx) : val_main_call3_v12 (F := Ideal) x0 j = 1#1 := by
  refine Host.reduce_andi_one _ _ _ _ j rfl fun i => ?_
  rw [val_main_call3_v11_apply, val_main_call3_v7_apply, val_main_call3_v10_apply, column3 x0 hw,
    val_main_call3_v6_apply, val_main_call3_v9_apply, val_main_call3_v8_apply]
  exact (congrArg₂ IntOp.andi (word_range _ (hw _)).2.1 (word_range _ (hw _)).2.2)

include hw in
/-- The look-up in the third parameter: row `b` of the result is the row of the light that word `b` names. -/
theorem take3 (x3 : (⟨S32x1, .f32⟩ : BufTy).Contents (Elt Ideal)) (b : Fin 4096) (k : Fin 1) :
    val_main_v13 (F := Ideal) x0 x3 (ix2 b k) = x3 (ix2 (lightOf (x0 (ix1 b))) k) := by
  have hi : (idx_main_call3_v5 (ix2 b 0) : S4096.Idx) = ix1 b := by funext a; match a with | ⟨0, _⟩ => rfl
  rw [val_main_v13_apply, val_main_call3_v14_apply, mask3 x0 hw]
  refine (ValueIdx.select_one _ _).trans ?_
  exact Routing.gather_row gather_S32x1_S4096x1_S4096x1_1_0_n_n_0_1_11 rfl rfl rfl rfl rfl x3 (val_main_call3_v5 (F := Ideal) x0) b k
    (lightOf (x0 (ix1 b))) ((column3 x0 hw _).trans ((congrArg x0 hi).trans (lightOf_word _ (hw _)))) (by decide)

end Cert.ReferenceIdeal.Take
-- ==== Proof.RefValue.lean ====
/-
  What the reference computes, for index words below 32: entry `(b, j, k)` of its directions before the
  last reshape, and every entry of its intensities.
-/
module

public import proofs.«01_k».proof.Proof.RefTake
public import proofs.«01_k».proof.Proof.Array

@[expose] public section

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read Cert.ReferenceIdeal.Take Cert.Light
open Cert.KernelIdeal.Array (directionAt intensityAt)

variable (x0 : (⟨S4096, .i32⟩ : BufTy).Contents (Elt Ideal)) (hw : ∀ i : S4096.Idx, BitVec.toNat (x0 i : BitVec 32) < 32)
  (x1 : (⟨S32x2, .f32⟩ : BufTy).Contents (Elt Ideal)) (x2 x3 : (⟨S32x1, .f32⟩ : BufTy).Contents (Elt Ideal))

include hw in
/-- Row `b` of the joined table is the direction of word `b`'s light, turned to point down. -/
theorem joined (b : Fin 4096) (k : Fin 3) : val_main_v4 (F := Ideal) x0 x1 x2 (ix2 b k)
    = down (x1 (ix2 (lightOf (x0 (ix1 b))) 0)) (x1 (ix2 (lightOf (x0 (ix1 b))) 1)) (x2 (ix2 (lightOf (x0 (ix1 b))) 0)) k := by
  have h0 := take0 x0 hw x1 b 0
  have h1 := take0 x0 hw x1 b 1
  have h2 := take1 x0 hw x2 b 0
  unfold val_main_v4
  match k with
  | ⟨0, _⟩ => exact Eq.trans (by pointwise) h0
  | ⟨1, _⟩ => exact Eq.trans (by pointwise) h1
  | ⟨2, _⟩ => exact Eq.trans (by pointwise; rfl) (congrArg (fun z : EReal => -(FloatOps.absf (F := Ideal) (φ := .f32) z)) h2)

include hw in
/-- Entry `(b, k)` of the scaled directions is coordinate `k` of word `b`'s direction divided by its length. -/
theorem scaled (b : Fin 4096) (k : Fin 3) : val_main_v9 (F := Ideal) x0 x1 x2 (ix2 b k) = directionAt x0 x1 x2 b k := by
  have hk : ∀ k : Fin 3, (idx_main_call2_v1 (ix1 b) k : S4096x3.Idx) = ix2 b k := fun k => by
    funext a; match a with | ⟨0, _⟩ => rfl | ⟨1, _⟩ => rfl
  have h8 : (idx_main_v8 (ix2 b k) : S4096x1.Idx) = ix2 b 0 := by funext a; match a with | ⟨0, _⟩ => rfl | ⟨1, _⟩ => rfl
  have h2 : (idx_main_call2_v2 (ix2 b 0) : S4096.Idx) = ix1 b := by funext a; match a with | ⟨0, _⟩ => rfl
  have hs : val_main_call2_v1 (F := Ideal) x0 x1 x2 (ix1 b)
      = val_main_v4 (F := Ideal) x0 x1 x2 (ix2 b 0) * val_main_v4 (F := Ideal) x0 x1 x2 (ix2 b 0)
        + val_main_v4 (F := Ideal) x0 x1 x2 (ix2 b 1) * val_main_v4 (F := Ideal) x0 x1 x2 (ix2 b 1)
        + val_main_v4 (F := Ideal) x0 x1 x2 (ix2 b 2) * val_main_v4 (F := Ideal) x0 x1 x2 (ix2 b 2) := by
    rw [val_main_call2_v1_apply, Fin.sum_univ_three, hk, hk, hk, val_main_call2_v0_apply, val_main_call2_v0_apply, val_main_call2_v0_apply]
    refine Eq.trans (congrArg (· + _) ?_) (zero_add _)
    exact (val_main_call2_cst_apply _).trans (Ideal.ofBits_zero FTy.f32)
  rw [val_main_v9_apply, val_main_v8_apply, h8, val_main_v7_apply, val_main_v5_apply, val_main_call2_v2_apply, h2, hs,
    joined x0 hw, joined x0 hw, joined x0 hw, joined x0 hw]
  rfl

include hw in
/-- Entry `(b, j, k)` of the directions before the last reshape: coordinate `k` of word `b`'s direction. -/
theorem repeated (b : Fin 4096) (j : Fin 1024) (k : Fin 3) :
    val_main_v11 (F := Ideal) x0 x1 x2 (ix3 b j k) = directionAt x0 x1 x2 b k := by
  have h : (idx_main_v10 (idx_main_v11 (ix3 b j k)) : S4096x3.Idx) = ix2 b k := by
    funext a; match a with | ⟨0, _⟩ => rfl | ⟨1, _⟩ => rfl
  rw [val_main_v11_apply, val_main_v10_apply, h, scaled x0 hw]

include hw in
/-- Entry `(b, j, k)` of the intensities before the last reshape: word `b`'s intensity. -/
theorem repeated_intensity (b : Fin 4096) (j : Fin 1024) (k : Fin 3) :
    val_main_v16 (F := Ideal) x0 x3 (ix3 b j k) = intensityAt x0 x3 b := by
  have h : (idx_main_v15 (idx_main_v16 (ix3 b j k)) : S4096x1.Idx) = ix2 b 0 := by
    funext a; match a with | ⟨0, _⟩ => rfl | ⟨1, _⟩ => rfl
  rw [val_main_v16_apply, val_main_v15_apply, h, val_main_v14_apply, take3 x0 hw]
  rfl

end Cert.ReferenceIdeal.RefValue
-- ==== Proof.Result.lean ====
/-
  The kernel program's two results, read through the host operations that follow its grid, and the
  equation of each with the reference's.
-/
module

public import proofs.«01_k».proof.Proof.Array
public import proofs.«01_k».proof.Proof.RefValue

@[expose] public section

set_option maxRecDepth 16384

noncomputable section

open Idealize.ShloMosaic Idealize.ShloMosaic.TcCoe Idealize.SL.Sem

namespace Cert.KernelIdeal.Result

open Cert.KernelIdeal Cert.KernelIdeal.Gen Cert.KernelIdeal.Array

variable (m : (ℓ : Loc nD τ sig) → Buf (Elt Ideal) ℓ)

/-- The directions the program returns: the planes with the coordinate axis moved last, then reshaped. -/
theorem result_directions (c : Dev nD) :
    Pipeline.afterTail₀ cfgs (dats m) 0 (V0 m) [hostOps1] c main_v5
      = shapeCast _ (transpose S4096x1024x3 [1, 2, 0] ((dats m 0 c).arrAt 2 (cfgs 0).N : FVec Ideal S3x4096x1024 .f32) transposes_S3x4096x1024_S4096x1024x3_1_2_0)
          shapeCasts_S4096x1024x3_S4194304x3 := by
  have h := Pipeline.withArrays_arr spec0 (by decide) c (V0 m c) (fun w => (dats m 0 c).arrAt w (cfgs 0).N) 2
  unfold Pipeline.afterTail₀ hostOps1
  rw [← h]
  after_reads_simp
  rfl

/-- The intensities the program returns: reshaped to one column, the column repeated three times. -/
theorem result_intensities (c : Dev nD) :
    Pipeline.afterTail₀ cfgs (dats m) 0 (V0 m) [hostOps1] c main_v7
      = broadcastInDim S4194304x3 ![0, 1] bcast_S4194304x1_S4194304x3_0_1
          (shapeCast _ ((dats m 0 c).arrAt 3 (cfgs 0).N : FVec Ideal S4096x1024 .f32) shapeCasts_S4096x1024_S4194304x1) := by
  have h := Pipeline.withArrays_arr spec0 (by decide) c (V0 m c) (fun w => (dats m 0 c).arrAt w (cfgs 0).N) 3
  unfold Pipeline.afterTail₀ hostOps1
  rw [← h]
  after_reads_simp
  rfl

variable (a0 : IVec S4096 32) (hw : ∀ i : S4096.Idx, (a0 i).toNat < 32)
  (a1 : FVec Ideal S32x2 .f32) (a2 a3 : FVec Ideal S32x1 .f32)

include hw in
/-- The direction planes, moved and reshaped as the program does, are the reference's directions. -/
theorem directions_eq :
    shapeCast S4194304x3 (transpose S4096x1024x3 [1, 2, 0] (directions a0 a1 a2) transposes_S3x4096x1024_S4096x1024x3_1_2_0)
        shapeCasts_S4096x1024x3_S4194304x3
      = Cert.ReferenceIdeal.Read.val_main_v12 (F := Ideal) a0 a1 a2 := by
  unfold Cert.ReferenceIdeal.Read.val_main_v12
  refine congrArg (fun x => shapeCast S4194304x3 x shapeCasts_S4096x1024x3_S4194304x3) (funext fun i => ?_)
  idx_vars i
  rw [Cert.ReferenceIdeal.RefValue.repeated a0 hw a1 a2 i0 i1 i2]
  pointwise [directions]

include hw in
/-- The intensities, reshaped and repeated as the program does, are the reference's intensities. -/
theorem intensities_eq :
    broadcastInDim S4194304x3 ![0, 1] bcast_S4194304x1_S4194304x3_0_1
        (shapeCast S4194304x1 (intensities a0 a3) shapeCasts_S4096x1024_S4194304x1)
      = Cert.ReferenceIdeal.Read.val_main_v17 (F := Ideal) a0 a3 := by
  funext i
  have h0 : (i 0).val < 4194304 := (i 0).isLt
  have h1 : (i 1).val < 3 := (i 1).isLt
  have hi : (Cert.ReferenceIdeal.Read.idx_main_v17 i : S4096x1024x3.Idx)
      = ix3 ⟨(i 0).val / 1024, by omega⟩ ⟨(i 0).val % 1024, by omega⟩ ⟨(i 1).val, h1⟩ := by
    funext a
    match a with
    | ⟨0, _⟩ => exact Fin.ext (by show ((i 0).val * 3 + (i 1).val) / 3072 = (i 0).val / 1024; omega)
    | ⟨1, _⟩ => exact Fin.ext (by show ((i 0).val * 3 + (i 1).val) / 3 % 1024 = (i 0).val % 1024; omega)
    | ⟨2, _⟩ => exact Fin.ext (by show ((i 0).val * 3 + (i 1).val) % 3 = (i 1).val; omega)
  rw [Cert.ReferenceIdeal.Read.val_main_v17_apply, hi, Cert.ReferenceIdeal.RefValue.repeated_intensity a0 hw a3]
  refine (broadcastInDim_apply _ bcast_S4194304x1_S4194304x3_0_1 _ i (ix2 ⟨(i 0).val, h0⟩ 0) fun a => ?_).trans ?_
  · match a with
    | ⟨0, _⟩ => rfl
    | ⟨1, _⟩ => rfl
  · exact shapeCast_apply _ shapeCasts_S4096x1024_S4194304x1 _ (ix2 ⟨(i 0).val / 1024, by omega⟩ ⟨(i 0).val % 1024, by omega⟩) (by
      rewrite [Shape.rowMajor_val_two, Shape.rowMajor_val_two]
      show (i 0).val / 1024 * 1024 + (i 0).val % 1024 = (i 0).val * 1 + 0
      omega)

/-- Where every index word is below 32, the program runs, its two results are the reference's two terms
    of its arguments, and its arguments end unchanged. -/
theorem run (hm : ∀ (c : Dev nD) (i : S4096.Idx), ((m ((c : Thread nD τ).loc main_arg0) : IVec S4096 32) i).toNat < 32)
    (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = Cert.ReferenceIdeal.Read.val_main_v12 (F := Ideal)
        (m ((c.tc : Thread nD τ).loc main_arg0)) (m ((c.tc : Thread nD τ).loc main_arg1)) (m ((c.tc : Thread nD τ).loc main_arg2))
      ∧ r.2.mem ((c.tc : Thread nD τ).loc main_v7) = Cert.ReferenceIdeal.Read.val_main_v17 (F := Ideal)
        (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (θ_run_and (run_main m ρ) (frame m ρ)) fun r hr c => ?_
  have h5 := (hr.1 c).2 main_v5 (Pipeline.mem_restRefs_of main_v5 (by decide) (by decide))
  have h7 := (hr.1 c).2 main_v7 (Pipeline.mem_restRefs_of main_v7 (by decide) (by decide))
  rw [result_directions, final_directions m (fun c b => hm c (ix1 b))] at h5
  rw [result_intensities, final_intensities m (fun c b => hm c (ix1 b))] at h7
  exact ⟨h5.trans (directions_eq _ (hm c) _ _), h7.trans (intensities_eq _ (hm c) _), hr.2.1 c⟩

end Cert.KernelIdeal.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Result
public import Idealize.ShloMosaic.Adequacy
public import Idealize.ShloMosaic.Init

@[expose] public section

noncomputable section

namespace Cert.Proof

open Idealize.ShloMosaic Idealize.SL.Sem

/-- The side condition of the precondition's two broadcasts. -/
theorem in_range_facts : Cert.Pre_in_range.Facts := ⟨by decide +kernel⟩

instance : Cert.Kernel.Facts := Cert.Kernel.Gen.facts
instance : Cert.KernelIdeal.Facts := Cert.KernelIdeal.Gen.facts
instance : Cert.ReferenceIdeal.Facts := Cert.ReferenceIdeal.Gen.facts
instance : Cert.Pre_in_range.Facts := in_range_facts

/-- Where the precondition is all ones, every index word is below 32. -/
theorem words_lt (m : (ℓ : Loc Cert.KernelIdeal.nD Cert.KernelIdeal.τ Cert.KernelIdeal.sig) → Buf (Elt Ideal) ℓ)
    (h : Cert.Pre_KernelIdeal_in_range m) (c : Dev Cert.KernelIdeal.nD) (i : Cert.KernelIdeal.S4096.Idx) :
    ((m ((c.tc : Thread Cert.KernelIdeal.nD Cert.KernelIdeal.τ).loc Cert.KernelIdeal.main_arg0) : IVec Cert.KernelIdeal.S4096 32) i).toNat < 32 :=
  Cert.Light.word_lt _ (congrFun (h c) i)

/-- The compiled program runs, leaves its arguments alone and ends with every semaphore at zero. -/
theorem frame_kernel : Cert.quiescent_Kernel := fun m ρ _ => Cert.Kernel.Gen.frame m ρ

/-- The idealized program runs, leaves its arguments alone and ends with every semaphore at zero. -/
theorem frame_ideal : Cert.quiescent_KernelIdeal := fun m ρ _ => Cert.KernelIdeal.Gen.frame m ρ

/-- The same, under the precondition. -/
theorem frame_ideal_in_range : Cert.quiescent_KernelIdeal_pre_in_range := fun m ρ _ => Cert.KernelIdeal.Gen.frame m ρ

/-- The reference runs, leaves its arguments alone, and has no semaphore. -/
theorem frame_reference : Cert.quiescent_ReferenceIdeal := fun m ρ _ =>
  θ_run_mono (Cert.ReferenceIdeal.Value.run (F := Ideal) m ρ) fun r h =>
    ⟨fun c => (h c).2.2, Idealize.ShloMosaic.sem_eq_zero_of_no_sems (by decide) r.2⟩

/-- The same, under the precondition. -/
theorem frame_reference_in_range : Cert.quiescent_ReferenceIdeal_pre_in_range := fun m ρ _ => frame_reference m ρ trivial

/-- Where every index word is in range, both of the idealized program's results are the reference's, for
    arguments that agree. -/
theorem value : Cert.algebraic_KernelIdeal_ReferenceIdeal_pre_in_range := by
  intro m g m' g' hpre hagree
  refine ⟨_, _, Cert.KernelIdeal.Result.run m (words_lt m hpre) g, ?_⟩
  refine θ_run_mono (Cert.ReferenceIdeal.Value.run (F := Ideal) m' g') fun r h c => ?_
  obtain ⟨e0, e1, e2, e3⟩ := hagree c
  refine ⟨((h c).1.trans (Cert.ReferenceIdeal.Read.val_main_v12_eq m' c)).trans ?_,
    ((h c).2.1.trans (Cert.ReferenceIdeal.Read.val_main_v17_eq _ _)).trans ?_, (h c).2.2⟩
  · rw [e0, e1, e2]
  · rw [e0, e3]

/-- Every claim of the certificate. -/
theorem claim : Cert.Claim := ⟨Cert.Kernel.Gen.facts, Cert.KernelIdeal.Gen.facts, Cert.ReferenceIdeal.Gen.facts, in_range_facts,
  frame_kernel, frame_ideal, frame_ideal_in_range, frame_reference, frame_reference_in_range, trivial, value⟩

end Cert.Proof

end
